-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x768 : Shape := ⟨3, ![4, 2048, 768]⟩
abbrev S257x768 : Shape := ⟨2, ![257, 768]⟩
abbrev S2048x768 : Shape := ⟨2, ![2048, 768]⟩
abbrev S4 : Shape := ⟨1, ![4]⟩
abbrev S1 : Shape := ⟨1, ![1]⟩
abbrev S_ : Shape := ⟨0, ![]⟩
abbrev S1x2048x768 : Shape := ⟨3, ![1, 2048, 768]⟩
abbrev S2048x257 : Shape := ⟨2, ![2048, 257]⟩

abbrev nBuf : Space → Nat
  | .hbm => 3
  | .vmem => 3
  | .smem => 0
  | _ => 0

abbrev bufTy : (tb : Table) → Fin (tcTables nBuf tb) → BufTy
  | .hbm, ⟨0, _⟩ => ⟨S4x2048x768, .f32⟩
  | .hbm, ⟨1, _⟩ => ⟨S257x768, .f32⟩
  | .hbm, ⟨2, _⟩ => ⟨S4x2048x768, .f32⟩
  | .local _ .vmem, ⟨0, _⟩ => ⟨S257x768, .f32⟩
  | .local _ .vmem, ⟨1, _⟩ => ⟨S4x2048x768, .f32⟩
  | .local _ .vmem, ⟨2, _⟩ => ⟨S2048x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S257x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x2048x768 : Shape := ⟨3, ![4, 2048, 768]⟩
abbrev S257x768 : Shape := ⟨2, ![257, 768]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x768 : Shape := ⟨2, ![2048, 768]⟩
abbrev S1 : Shape := ⟨1, ![1]⟩
abbrev S1x1 : Shape := ⟨2, ![1, 1]⟩
abbrev S768 : Shape := ⟨1, ![768]⟩
abbrev S1x768 : Shape := ⟨2, ![1, 768]⟩
abbrev S1x2048x768 : Shape := ⟨3, ![1, 2048, 768]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S257x768, .f32⟩
  | .hbm, ⟨2, _⟩ => ⟨S2048, .i32⟩
  | .hbm, ⟨3, _⟩ => ⟨S1x2048, .i32⟩
  | .hbm, ⟨4, _⟩ => ⟨S2048x1, .i32⟩
  | .hbm, ⟨5, _⟩ => ⟨S2048x2048, .i32⟩
  | .hbm, ⟨6, _⟩ => ⟨S2048x2048, .i32⟩
  | .hbm, ⟨7, _⟩ => ⟨S2048x2048, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S_, .f32⟩
  | .hbm, ⟨20, _⟩ => ⟨S2048x768, .f32⟩
  | .hbm, ⟨21, _⟩ => ⟨S_, .i32⟩
  | .hbm, ⟨22, _⟩ => ⟨S2048x2048, .i32⟩
  | .hbm, ⟨23, _⟩ => ⟨S257x768, .f32⟩
  | .hbm, ⟨24, _⟩ => ⟨S_, .i32⟩
  | .hbm, ⟨25, _⟩ => ⟨S2048x768, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S1x2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S1, .i32⟩
  | .hbm, ⟨40, _⟩ => ⟨S_, .i32⟩
  | .hbm, ⟨41, _⟩ => ⟨S2048x1, .i32⟩
  | .hbm, ⟨42, _⟩ => ⟨S2048x1, .i1⟩
  | .hbm, ⟨43, _⟩ => ⟨S1x1, .i32⟩
  | .hbm, ⟨44, _⟩ => ⟨S2048x1, .i32⟩
  | .hbm, ⟨45, _⟩ => ⟨S2048x1, .i1⟩
  | .hbm, ⟨46, _⟩ => ⟨S2048x1, .i1⟩
  | .hbm, ⟨47, _⟩ => ⟨S_, .i1⟩
  | .hbm, ⟨48, _⟩ => ⟨S2048, .i1⟩
  | .hbm, ⟨49, _⟩ => ⟨S2048x768, .f32⟩
  | .hbm, ⟨50, _⟩ => ⟨S2048x768, .i1⟩
  | .hbm, ⟨51, _⟩ => ⟨S_, .f32⟩
  | .hbm, ⟨52, _⟩ => ⟨S2048x768, .f32⟩
  | .hbm, ⟨53, _⟩ => ⟨S2048x768, .f32⟩
  | .hbm, ⟨54, _⟩ => ⟨S_, .f32⟩
  | .hbm, ⟨55, _⟩ => ⟨S768, .f32⟩
  | .hbm, ⟨56, _⟩ => ⟨S_, .f32⟩
  | .hbm, ⟨57, _⟩ => ⟨S768, .f32⟩
  | .hbm, ⟨58, _⟩ => ⟨S768, .f32⟩
  | .hbm, ⟨59, _⟩ => ⟨S1x768, .f32⟩
  | .hbm, ⟨60, _⟩ => ⟨S_, .i32⟩
  | .hbm, ⟨61, _⟩ => ⟨S2048x768, .f32⟩
  | .hbm, ⟨62, _⟩ => ⟨S_, .i32⟩
  | .hbm, ⟨63, _⟩ => ⟨S_, .i32⟩
  | .hbm, ⟨64, _⟩ => ⟨S1x2048x768, .f32⟩
  | .hbm, ⟨65, _⟩ => ⟨S4x2048x768, .f32⟩
  | .hbm, ⟨66, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_c_2 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_while0c_c_6 : Ref sig .tc := ⟨.hbm, 26, rfl⟩
abbrev main_while0c_v14 : Ref sig .tc := ⟨.hbm, 27, rfl⟩
abbrev main_while0b_call1_c : Ref sig .tc := ⟨.hbm, 28, rfl⟩
abbrev main_while0b_call1_v0 : Ref sig .tc := ⟨.hbm, 29, rfl⟩
abbrev main_while0b_v14 : Ref sig .tc := ⟨.hbm, 30, rfl⟩
abbrev main_while0b_call2_c : Ref sig .tc := ⟨.hbm, 31, rfl⟩
abbrev main_while0b_call2_v0 : Ref sig .tc := ⟨.hbm, 32, rfl⟩
abbrev main_while0b_call2_v1 : Ref sig .tc := ⟨.hbm, 33, rfl⟩
abbrev main_while0b_call2_c_0 : Ref sig .tc := ⟨.hbm, 34, rfl⟩
abbrev main_while0b_call2_v2 : Ref sig .tc := ⟨.hbm, 35, rfl⟩
abbrev main_while0b_call2_v3 : Ref sig .tc := ⟨.hbm, 36, rfl⟩
abbrev main_while0b_call2_v4 : Ref sig .tc := ⟨.hbm, 37, rfl⟩
abbrev main_while0b_call2_v5 : Ref sig .tc := ⟨.hbm, 38, rfl⟩
abbrev main_while0b_call2_c_1 : Ref sig .tc := ⟨.hbm, 39, rfl⟩
abbrev main_while0b_call2_c_2 : Ref sig .tc := ⟨.hbm, 40, rfl⟩
abbrev main_while0b_call2_v6 : Ref sig .tc := ⟨.hbm, 41, rfl⟩
abbrev main_while0b_call2_v7 : Ref sig .tc := ⟨.hbm, 42, rfl⟩
abbrev main_while0b_call2_v8 : Ref sig .tc := ⟨.hbm, 43, rfl⟩
abbrev main_while0b_call2_v9 : Ref sig .tc := ⟨.hbm, 44, rfl⟩
abbrev main_while0b_call2_v10 : Ref sig .tc := ⟨.hbm, 45, rfl⟩
abbrev main_while0b_call2_v11 : Ref sig .tc := ⟨.hbm, 46, rfl⟩
abbrev main_while0b_call2_c_3 : Ref sig .tc := ⟨.hbm, 47, rfl⟩
abbrev main_while0b_call2_v12 : Ref sig .tc := ⟨.hbm, 48, rfl⟩
abbrev main_while0b_call2_v13 : Ref sig .tc := ⟨.hbm, 49, rfl⟩
abbrev main_while0b_call2_v14 : Ref sig .tc := ⟨.hbm, 50, rfl⟩
abbrev main_while0b_call2_cst : Ref sig .tc := ⟨.hbm, 51, rfl⟩
abbrev main_while0b_call2_v15 : Ref sig .tc := ⟨.hbm, 52, rfl⟩
abbrev main_while0b_v15 : Ref sig .tc := ⟨.hbm, 53, rfl⟩
abbrev main_while0b_cst_6 : Ref sig .tc := ⟨.hbm, 54, rfl⟩
abbrev main_while0b_v16 : Ref sig .tc := ⟨.hbm, 55, rfl⟩
abbrev main_while0b_cst_7 : Ref sig .tc := ⟨.hbm, 56, rfl⟩
abbrev main_while0b_v17 : Ref sig .tc := ⟨.hbm, 57, rfl⟩
abbrev main_while0b_v18 : Ref sig .tc := ⟨.hbm, 58, rfl⟩
abbrev main_while0b_call3_v0 : Ref sig .tc := ⟨.hbm, 59, rfl⟩
abbrev main_while0b_call3_c : Ref sig .tc := ⟨.hbm, 60, rfl⟩
abbrev main_while0b_v19 : Ref sig .tc := ⟨.hbm, 61, rfl⟩
abbrev main_while0b_c_8 : Ref sig .tc := ⟨.hbm, 62, rfl⟩
abbrev main_while0b_v20 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩

abbrev nD : Nat := 1
abbrev τ : Topo := Topo.v7x

variable {F : FTy → Type} [FloatOps F]

abbrev main_while0_count : Scf.Loop 32 := ⟨0#32, 2048#32, 1#32⟩
-- ==== Proof.Planes.lean ====
/-
  Planes of a buffer of shape 4 × 2048 × 768: what is read through one of its four 2048 × 768 planes, and what the
  buffer reads after a plane has been written, each down to one element.
-/
module

public import Idealize.ShloMosaic.Lib.PointwiseCore
public import Idealize.ShloMosaic.Lib.Writes
public import Idealize.ShloMosaic.Lib.WritesUnit
public import Idealize.ShloMosaic.Lib.VecWindow

@[expose] public section

noncomputable section

namespace Cert.Planes

open Idealize.ShloMosaic

/-- The shape of `x` and of the result. -/
abbrev Big : Shape := ⟨3, ![4, 2048, 768]⟩
/-- One plane of it, its unit axis kept. -/
abbrev Thin : Shape := ⟨3, ![1, 2048, 768]⟩
/-- One plane of it, its unit axis dropped. -/
abbrev Flat : Shape := ⟨2, ![2048, 768]⟩

variable {sig : RefSig} {κ : Kind} {sp : Space} {e : EltTy} {Val : EltTy → Type} (M : Memref sig κ sp Big e)

/-- The index of a plane matched with a row and a column is that row and column behind the coordinate 0. -/
theorem match_flat (h : Flat.numel = Thin.numel) (i : Fin 2048) (d : Fin 768) :
    Shape.reshapeEquiv h (ix2 i d) = (ix3 0 i d : Thin.Idx) := by
  refine (Shape.reshapeEquiv_cons_one h _).trans (funext fun a => ?_)
  match a with
  | ⟨0, _⟩ => rfl
  | ⟨1, _⟩ => rfl
  | ⟨2, _⟩ => rfl

/-- Where plane `k` puts its row `i`, column `d`: at plane `k`, row `i`, column `d` of the buffer. -/
theorem place (k : Fin 4) (inb : ∀ a, (![k.val, 0, 0] : Fin 3 → ℕ) a + Thin.size a ≤ Big.size a) (i : Fin 2048) (d : Fin 768) :
    (Rect.unit (s := Big) ![k.val, 0, 0] Thin.size inb).emb (ix3 0 i d : Thin.Idx) = (ix3 k i d : Big.Idx) :=
  funext fun a => Fin.ext (by
    match a with
    | ⟨0, _⟩ => show k.val + 1 * 0 = k.val; omega
    | ⟨1, _⟩ => show 0 + 1 * i.val = i.val; omega
    | ⟨2, _⟩ => show 0 + 1 * d.val = d.val; omega)

/-- A load of plane `k` reads, at row `i` and column `d`, the buffer there. -/
theorem load_plane (k : Fin 4) (inb : ∀ a, (![k.val, 0, 0] : Fin 3 → ℕ) a + Thin.size a ≤ Big.size a)
    (f : M.view.ty.Contents Val) (i : Fin 2048) (d : Fin 768) :
    M.view.readAt Val (Rect.unit (s := Big) ![k.val, 0, 0] Thin.size inb).toLoadRect f (ix3 0 i d : Thin.Idx)
      = M.view.read Val f (ix3 k i d) :=
  congrArg (M.view.read Val f) (place k inb i d)

/-- A flattened plane `k` reads, at row `i` and column `d`, the buffer there. -/
theorem read_plane (k : Fin 4) (inb : ∀ a, (![k.val, 0, 0] : Fin 3 → ℕ) a + Thin.size a ≤ Big.size a) (hs) (hq : Thin.Squeezes Flat)
    (f : M.view.ty.Contents Val) (i : Fin 2048) (d : Fin 768) :
    (((M.slice (Rect.unit (s := Big) ![k.val, 0, 0] Thin.size inb) hs).squeeze Flat hq).view.read Val f) (ix2 i d)
      = M.view.read Val f (ix3 k i d) :=
  (congrArg (fun y => M.view.read Val f ((Rect.unit (s := Big) ![k.val, 0, 0] Thin.size inb).emb y)) (match_flat hq.numel_eq i d)).trans
    (congrArg (M.view.read Val f) (place k inb i d))

/-- After a store of plane `k` (the newest of a list of stores) the buffer reads the stored value in plane `k`, and in
    the others what the earlier stores left. -/
theorem store_plane (k : Fin 4) (inb : ∀ a, (![k.val, 0, 0] : Fin 3 → ℕ) a + Thin.size a ≤ Big.size a)
    (f : M.view.ty.Contents Val) (w : Thin.Idx → Val e) (L : List (View.Piece Val Big e)) (b : Fin 4) (i : Fin 2048) (d : Fin 768) :
    M.view.read Val (M.view.writes Val f (⟨Rect.unit (s := Big) ![k.val, 0, 0] Thin.size inb, w⟩ :: L)) (ix3 b i d)
      = if b = k then w (ix3 0 i d) else M.view.read Val (M.view.writes Val f L) (ix3 b i d) := by
  by_cases h : b = k
  · rw [if_pos h, h]
    have hp := View.read_writes_cons_emb M.view f (Rect.unit (s := Big) ![k.val, 0, 0] Thin.size inb) w L (ix3 0 i d : Thin.Idx)
    rw [place k inb i d] at hp
    exact hp
  · rw [if_neg h]
    have hb : b.val < k.val ∨ k.val + 1 ≤ b.val := by omega
    exact View.read_writes_cons_unit_of_not_mem (off := ![k.val, 0, 0]) (off' := ![k.val, 0, 0]) (size := Thin.size) M.view f inb w L
      (ix3 b i d) rfl (0 : Fin 3) hb

/-- After a transfer into the flattened plane `k` the buffer reads what was moved in plane `k`, and in the others what
    it read before. -/
theorem move_plane (k : Fin 4) (inb : ∀ a, (![k.val, 0, 0] : Fin 3 → ℕ) a + Thin.size a ≤ Big.size a) (hs) (hq : Thin.Squeezes Flat)
    (f : M.view.ty.Contents Val) (w : Flat.Idx → Val e) (b : Fin 4) (i : Fin 2048) (d : Fin 768) :
    M.view.read Val (View.write Val ((M.slice (Rect.unit (s := Big) ![k.val, 0, 0] Thin.size inb) hs).squeeze Flat hq).view f w Finset.univ) (ix3 b i d)
      = if b = k then w (ix2 i d) else M.view.read Val f (ix3 b i d) := by
  refine (congrArg (fun g => M.view.read Val g (ix3 b i d)) (View.write_reshape_univ (M.view.slice (Rect.unit (s := Big) ![k.val, 0, 0] Thin.size inb)) hq.numel_eq f w)).trans ?_
  refine (store_plane M k inb f (fun x => w ((Shape.reshapeEquiv hq.numel_eq).symm x)) [] b i d).trans ?_
  rw [← match_flat hq.numel_eq i d, Equiv.symm_apply_apply]
  rfl

/-- Reading flattened plane `k` just after a store of plane `k` reads the stored value. -/
theorem read_stored (k : Fin 4) (inb inb' : ∀ a, (![k.val, 0, 0] : Fin 3 → ℕ) a + Thin.size a ≤ Big.size a) (hs) (hq : Thin.Squeezes Flat)
    (f : M.view.ty.Contents Val) (w : Thin.Idx → Val e) (L : List (View.Piece Val Big e)) (i : Fin 2048) (d : Fin 768) :
    (((M.slice (Rect.unit (s := Big) ![k.val, 0, 0] Thin.size inb) hs).squeeze Flat hq).view.read Val
        (M.view.writes Val f (⟨Rect.unit (s := Big) ![k.val, 0, 0] Thin.size inb', w⟩ :: L))) (ix2 i d) = w (ix3 0 i d) :=
  (read_plane M k inb hs hq _ i d).trans ((store_plane M k inb' f w L k i d).trans (if_pos rfl))

/-- After four transfers, one into each flattened plane, each moving `G`'s plane, the buffer reads `G`. -/
theorem four_moves (f : M.view.ty.Contents Val) (w₀ w₁ w₂ w₃ : Flat.Idx → Val e) (G : Big.Idx → Val e)
    (inb₀ inb₁ inb₂ inb₃ hs₀ hs₁ hs₂ hs₃) (hq₀ hq₁ hq₂ hq₃ : Thin.Squeezes Flat)
    (h₀ : ∀ i d, w₀ (ix2 i d) = G (ix3 0 i d)) (h₁ : ∀ i d, w₁ (ix2 i d) = G (ix3 1 i d))
    (h₂ : ∀ i d, w₂ (ix2 i d) = G (ix3 2 i d)) (h₃ : ∀ i d, w₃ (ix2 i d) = G (ix3 3 i d)) (y : Big.Idx) :
    M.view.read Val
      (View.write Val ((M.slice (Rect.unit (s := Big) ![3, 0, 0] Thin.size inb₃) hs₃).squeeze Flat hq₃).view
        (View.write Val ((M.slice (Rect.unit (s := Big) ![2, 0, 0] Thin.size inb₂) hs₂).squeeze Flat hq₂).view
          (View.write Val ((M.slice (Rect.unit (s := Big) ![1, 0, 0] Thin.size inb₁) hs₁).squeeze Flat hq₁).view
            (View.write Val ((M.slice (Rect.unit (s := Big) ![0, 0, 0] Thin.size inb₀) hs₀).squeeze Flat hq₀).view
              f w₀ Finset.univ) w₁ Finset.univ) w₂ Finset.univ) w₃ Finset.univ) y = G y := by
  obtain ⟨b, i, d, rfl⟩ : ∃ (b : Fin 4) (i : Fin 2048) (d : Fin 768), y = ix3 b i d := ⟨_, _, _, eq_ix3 y⟩
  refine (move_plane M 3 inb₃ hs₃ hq₃ _ w₃ b i d).trans ?_
  split
  · next h => rw [h₃, h]
  refine (move_plane M 2 inb₂ hs₂ hq₂ _ w₂ b i d).trans ?_
  split
  · next h => rw [h₂, h]
  refine (move_plane M 1 inb₁ hs₁ hq₁ _ w₁ b i d).trans ?_
  split
  · next h => rw [h₁, h]
  refine (move_plane M 0 inb₀ hs₀ hq₀ _ w₀ b i d).trans ?_
  split
  · next h => rw [h₀, h]
  · omega

end Cert.Planes

end
-- ==== Proof.KernelRun.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Routed
public import Idealize.ShloMosaic.Lib.Ring
public import Idealize.ShloMosaic.Lib.Tactic
public import Idealize.ShloMosaic.Lib.WordCmp
public import proofs.«01_k».proof.Proof.Planes

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Planes

variable {F : FTy → Type} [FloatOps F]

local notation "𝕄" => MT nD τ sig Unit (Elt F) ℕ (Pipeline.UC sig nD τ) ℕ

/-- A whole buffer of core `c`, held outright at contents `f`. -/
abbrev held (c : Dev nD) (b : Ref sig .tc) (f : Buf (Elt F) ((Memref.whole b).view.loc (c : Thread nD τ))) : sProp 𝕄 :=
  ((Memref.whole b).view.loc (c : Thread nD τ)) ↦{fullShare} f

/-- The kernel's eight own transfer counters of core `c`, all at zero. -/
abbrev cells (c : Dev nD) : sProp 𝕄 :=
  iprop(semVal ((c : Thread nD τ), SemLoc.dma 1) 0 ∗ semVal ((c : Thread nD τ), SemLoc.dma 2) 0
    ∗ semVal ((c : Thread nD τ), SemLoc.dma 3) 0 ∗ semVal ((c : Thread nD τ), SemLoc.dma 4) 0
    ∗ semVal ((c : Thread nD τ), SemLoc.dma 5) 0 ∗ semVal ((c : Thread nD τ), SemLoc.dma 6) 0
    ∗ semVal ((c : Thread nD τ), SemLoc.dma 7) 0 ∗ semVal ((c : Thread nD τ), SemLoc.dma 8) 0)

/-- Equal assertions entail one another. -/
theorem same {P Q : sProp 𝕄} (e : P = Q) : P ⊢ Q := e ▸ .rfl

/-- Element by element, what the kernel writes: `x` plus the position row `p` of the element's position. -/
def outOf (x : S4x2048x768.Idx → Elt F .f32) (p : S2048x768.Idx → Elt F .f32) : S4x2048x768.Idx → Elt F .f32 :=
  fun y => FloatOps.addf (x y) (p (ix2 (y 1) (y 2)))

/-- The position rows the kernel computes from the table `t`. -/
def rowsOf (t : S257x768.Idx → Elt F .f32) : S2048x768.Idx → Elt F .f32 :=
  k0_pay2 (iota .tc S2048x257 32 [0] iota_S2048x257_d0_w32) (iota .tc S2048x257 32 [1] iota_S2048x257_d1_w32) k0_pay1 t

set_option sl_exec.dmaWindow true in
/-- The kernel's body, given `x`, the result, the staged table, the two scratch buffers and its eight counters at zero,
    hands all of them back: `x` and the table as they were, the counters at zero, and the result at `outOf` of `x` and the
    table's position rows. -/
theorem bodyRun (c : Dev nD) (arg1 : Memref sig .tc .vmem S257x768 .f32) (harg1 : arg1.IsWhole)
    (x fo : Buf (Elt F) ((Memref.whole main_arg0).view.loc (c : Thread nD τ)))
    (ft : Buf (Elt F) (arg1.view.loc (c : Thread nD τ))) (f3 f4) (W : Waits sig Unit) (K : PUnit → sProp 𝕄) :
    iprop(held c main_arg0 x ∗ held c main_v0 fo ∗ (arg1.view.loc (c : Thread nD τ) ↦[arg1.view.set]{fullShare} ft) ∗ held c cc0_scratch0 f3 ∗ held c cc0_scratch1 f4
      ∗ cells c ∗ owes (c : Thread nD τ) 0 W
      ∗ ((held c main_arg0 x ∗ held c main_v0 (outOf x (rowsOf (arg1.view.read (Elt F) ft)))
          ∗ (arg1.view.loc (c : Thread nD τ) ↦[arg1.view.set]{fullShare} ft) ∗ (∃ f, held c cc0_scratch0 f) ∗ (∃ f, held c cc0_scratch1 f)
          ∗ cells c ∗ ∃ W', owes (c : Thread nD τ) 0 W') -∗ K ⟨⟩))
    ⊢ wp frame (wpE (defs₀ (F := F)) Variants.none (c : Thread nD τ) none) Set.univ
        (cc0_body (Memref.whole main_arg0) (Memref.isWhole_whole _) arg1 harg1 (Memref.whole main_v0) (Memref.isWhole_whole _) (Memref.whole cc0_scratch0) (Memref.isWhole_whole _) (Memref.whole cc0_scratch1) (Memref.isWhole_whole _) cc0_scratch2 cc0_scratch3) K := by
  simp only [cc0_body_eq_skeleton]
  unfold cc0_body_skel
  iintro ⟨Hx, Ho, Ht, Hb, Hp, ⟨H1, H2, H3, H4, H5, H6, H7, H8⟩, HW, Hk⟩
  sl_exec
  sl_step
  -- the position rows, as they are read back
  have hrows : bodyRun.sl.v70 c arg1 ft = rowsOf (arg1.view.read (Elt F) ft) := by
    unfold bodyRun.sl.v70 bodyRun.sl.Hp_1
    refine (View.readCov_full (s := S2048x768) (Memref.whole cc0_scratch1).view _ _ _ _).trans ?_
    exact congrArg rowsOf (View.readAt_full (s := S257x768) arg1.view ft _)
  -- the four transfers in leave `x` in the scratch buffer: what each plane's load reads
  have hl0 : ∀ i d, bodyRun.sl.v68 c x f3 (ix3 0 i d) = x (ix3 0 i d) := fun i d =>
    (load_plane (Memref.whole cc0_scratch0) 0 _ _ i d).trans (four_moves (Memref.whole cc0_scratch0) f3 _ _ _ _ x _ _ _ _ _ _ _ _ _ _ _ _
      (read_plane (Memref.whole main_arg0) 0 _ _ _ x) (read_plane (Memref.whole main_arg0) 1 _ _ _ x)
      (read_plane (Memref.whole main_arg0) 2 _ _ _ x) (read_plane (Memref.whole main_arg0) 3 _ _ _ x) _)
  have hl1 : ∀ i d, bodyRun.sl.v87 c x f3 (ix3 0 i d) = x (ix3 1 i d) := fun i d =>
    (load_plane (Memref.whole cc0_scratch0) 1 _ _ i d).trans (four_moves (Memref.whole cc0_scratch0) f3 _ _ _ _ x _ _ _ _ _ _ _ _ _ _ _ _
      (read_plane (Memref.whole main_arg0) 0 _ _ _ x) (read_plane (Memref.whole main_arg0) 1 _ _ _ x)
      (read_plane (Memref.whole main_arg0) 2 _ _ _ x) (read_plane (Memref.whole main_arg0) 3 _ _ _ x) _)
  have hl2 : ∀ i d, bodyRun.sl.v106 c x f3 (ix3 0 i d) = x (ix3 2 i d) := fun i d =>
    (load_plane (Memref.whole cc0_scratch0) 2 _ _ i d).trans (four_moves (Memref.whole cc0_scratch0) f3 _ _ _ _ x _ _ _ _ _ _ _ _ _ _ _ _
      (read_plane (Memref.whole main_arg0) 0 _ _ _ x) (read_plane (Memref.whole main_arg0) 1 _ _ _ x)
      (read_plane (Memref.whole main_arg0) 2 _ _ _ x) (read_plane (Memref.whole main_arg0) 3 _ _ _ x) _)
  have hl3 : ∀ i d, bodyRun.sl.v125 c x f3 (ix3 0 i d) = x (ix3 3 i d) := fun i d =>
    (load_plane (Memref.whole cc0_scratch0) 3 _ _ i d).trans (four_moves (Memref.whole cc0_scratch0) f3 _ _ _ _ x _ _ _ _ _ _ _ _ _ _ _ _
      (read_plane (Memref.whole main_arg0) 0 _ _ _ x) (read_plane (Memref.whole main_arg0) 1 _ _ _ x)
      (read_plane (Memref.whole main_arg0) 2 _ _ _ x) (read_plane (Memref.whole main_arg0) 3 _ _ _ x) _)
  -- so the four transfers out leave the result at `x` plus the position rows
  have hout := fun inb₀ inb₁ inb₂ inb₃ hs₀ hs₁ hs₂ hs₃ => funext (four_moves (Memref.whole main_v0) fo
    (bodyRun.sl.dma7 c arg1 x ft f3) (bodyRun.sl.dma11 c arg1 x ft f3) (bodyRun.sl.dma15 c arg1 x ft f3) (bodyRun.sl.dma19 c arg1 x ft f3)
    (outOf x (rowsOf (arg1.view.read (Elt F) ft))) inb₀ inb₁ inb₂ inb₃ hs₀ hs₁ hs₂ hs₃
    squeezes_S1x2048x768_S2048x768 squeezes_S1x2048x768_S2048x768 squeezes_S1x2048x768_S2048x768 squeezes_S1x2048x768_S2048x768
    (fun i d => (read_stored (Memref.whole cc0_scratch0) 0 _ _ _ _ _ _ _ i d).trans (by
      rw [← hrows]; unfold k0_pay3; pointwise; rw [hl0]; rfl))
    (fun i d => (read_stored (Memref.whole cc0_scratch0) 1 _ _ _ _ _ _ _ i d).trans (by
      rw [← hrows]; unfold k0_pay5 bodyRun.sl.r k0_pay4; pointwise; rw [hl1]; rfl))
    (fun i d => (read_stored (Memref.whole cc0_scratch0) 2 _ _ _ _ _ _ _ i d).trans (by
      rw [← hrows]; unfold k0_pay6; pointwise; rw [hl2]; rfl))
    (fun i d => (read_stored (Memref.whole cc0_scratch0) 3 _ _ _ _ _ _ _ i d).trans (by
      rw [← hrows]; unfold k0_pay7; pointwise; rw [hl3]; rfl)))
  iapply Hk
  isplitl [Hx]; · iexact Hx
  isplitl [Ho]
  · iapply (same (congrArg (fun f => held c main_v0 f) (hout _ _ _ _ _ _ _ _)))
    iexact Ho
  isplitl [Ht]; · iexact Ht
  isplitl [Hb]; · iexists _; iexact Hb
  isplitl [Hp]; · iexists _; iexact Hp
  isplitr [HW]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexists _; iexact HW

end Cert.KernelIdeal.Run

end
-- ==== Proof.KernelLaunch.lean ====
module

public import proofs.«01_k».proof.Proof.KernelRun
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Planes

variable {F : FTy → Type} [FloatOps F]

local notation "𝕄" => MT nD τ sig Unit (Elt F) ℕ (Pipeline.UC sig nD τ) ℕ

abbrev 𝒱₀ : Variants := Variants.none

variable (m : (ℓ : Loc nD τ sig) → Buf (Elt F) ℓ) (g : Dev nD → PrngReg)

/-- Each of core `c`'s buffers as launched. -/
abbrev atLaunch (c : Dev nD) (b : Ref sig .tc) : Buf (Elt F) ((c : Thread nD τ).loc b) := m ((c : Thread nD τ).loc b)

/-- The eight transfer counters the kernel declares for itself, in declaration order. -/
def ownCells : Fin 8 → SemLoc sig
  | 0 => .dma 1 | 1 => .dma 2 | 2 => .dma 3 | 3 => .dma 4 | 4 => .dma 5 | 5 => .dma 6 | 6 => .dma 7 | 7 => .dma 8

/-- They are the region's own: pairwise different and none of them the table's staging counter. -/
theorem ownCells_facts : Pipeline.OwnSemFacts spec0 ownCells := by decide

/-- The kernel's own counters at zero, one by one. -/
theorem ownCells_eq (c : Dev nD) :
    (Pipeline.ownSems0 (Ix := Unit) (Name := ℕ) (U := Pipeline.UC sig nD τ) (Lvl := ℕ) (Val := Elt F) (τ := τ) ownCells c : sProp 𝕄) = cells c :=
  Pipeline.ownSems0_eq_of_list c ownCells [0, 1, 2, 3, 4, 5, 6, 7] (by decide) (by decide)

/-- The two arrays the kernel moves by its own transfers: `x` and the result. -/
abbrev moved : Finset (Ref sig .tc) := {main_arg0, main_v0}

/-- Holding those two is holding the one and the other. -/
theorem moved_eq (c : Dev nD) (W : (b : Ref sig .tc) → Buf (Elt F) ((c.tc : Thread nD τ).loc b)) :
    Pipeline.routed moved c W = (iprop(held c main_arg0 (W main_arg0) ∗ held c main_v0 (W main_v0)) : sProp 𝕄) := by
  unfold Pipeline.routed
  rw [bigSep_insert (by decide), bigSep_singleton]
  rfl

/-- The table's window at the one point: what the staging buffer is given. -/
def staged (c : Dev nD) (t : Fin cfg0.N) : ((cfg0.win 0).xblock (cfg0.grid.coords t)).Idx → Elt F (cfg0.win 0).elt :=
  ((cfg0.win 0).blk t).view.read (Elt F) (atLaunch m c (Pipeline.arrRef spec0 0))

/-- The table's window never moves off the table's first element. -/
theorem table_index : ∀ (t : Fin cfg0.N) (a : Fin 2), win0_0.index t a = 0 :=
  (by decide +kernel : ∀ (t : Fin grid0.N) (a : Fin 2), win0_0.index t a = 0)

/-- The window is the whole table, so that is the table. -/
theorem staged_eq (c : Dev nD) (t : Fin cfg0.N) : staged m c t = m ((c : Thread nD τ).loc main_arg1) := by
  funext y
  unfold staged
  rw [View.read_apply]
  refine congrArg (m ((c : Thread nD τ).loc main_arg1)) (funext fun a => Fin.ext ?_)
  refine (Pipeline.Window.rect_emb_val win0_0 t y a).trans ?_
  rw [table_index t a]
  omega

/-- The result array at the end: `x` plus the position rows of the table, as launched. -/
def result (c : Dev nD) : S4x2048x768.Idx → Elt F .f32 :=
  outOf (m ((c : Thread nD τ).loc main_arg0)) (rowsOf (m ((c : Thread nD τ).loc main_arg1)))

/-- The arrays after the run: `result` in the result array, every other as launched. -/
def atEnd (c : Dev nD) (b : Ref sig .tc) : Buf (Elt F) ((c : Thread nD τ).loc b) :=
  Function.update (atLaunch m c) main_v0 (result m c) b

theorem atEnd_result (c : Dev nD) : atEnd m c main_v0 = result m c := by
  unfold atEnd; rw [Function.update_self]

theorem atEnd_x (c : Dev nD) : atEnd m c main_arg0 = m ((c : Thread nD τ).loc main_arg0) := by
  unfold atEnd; rw [Function.update_of_ne (by decide)]

/-- The arrays before the point (as launched) and after it (`atEnd`). -/
def arraysAt (c : Dev nD) (t : Fin (cfg0.N + 1)) : (b : Ref sig .tc) → Buf (Elt F) ((c : Thread nD τ).loc b) :=
  if t.val = 0 then atLaunch m c else atEnd m c

/-- The run's bookkeeping: the table staged and left alone, the rest of the body's own things passing through it. -/
def dats (_ : Fin 1) (c : Dev nD) : Dat τ (Elt F) Unit ℕ (Pipeline.UC sig nD τ) ℕ cfg0 c where
  A w := atLaunch m c (Pipeline.arrRef spec0 w)
  after w t := match w with
    | ⟨0, _⟩ => staged m c t
  Φ t := Pipeline.Ends spec0 ownCells moved c (arraysAt m c t)
  q _ := fullShare
  owed _ := 0

theorem before_table (c : Dev nD) (t : Fin cfg0.N) (d) : (dats m 0 c).before 0 t d = staged m c t := by
  unfold Dat.before; rw [if_pos (fetch0_0 t)]; unfold Dat.fetched Dat.blockOf staged; dsimp only [dats]; rfl

theorem after_table (c : Dev nD) (t : Fin cfg0.N) : (dats m 0 c).after 0 t = staged m c t := by dsimp only [dats]

/-- The body as the pipeline calls it, looked up in the table of bodies and then applied. -/
theorem body_entry : (defs₀ (F := F)) .tc cfg0.body
    = fun a => cc0_body (Memref.whole main_arg0) (Memref.isWhole_whole _) (win0_0.stage (a.2 0)) (hstage0_0 0)
        (Memref.whole main_v0) (Memref.isWhole_whole _) (Memref.whole cc0_scratch0) (Memref.isWhole_whole _)
        (Memref.whole cc0_scratch1) (Memref.isWhole_whole _) cc0_scratch2 cc0_scratch3 := rfl

theorem body_at (t : Fin cfg0.N) : (defs₀ (F := F)) .tc cfg0.body (cfg0.bodyArgs t (cfg0.slots t)) = bodyAt0 t :=
  (congrFun body_entry _).trans rfl

/-- What the body needs of its own before the point. -/
theorem before_point (c : Dev nD) (t : Fin cfg0.N) : arraysAt m c t.castSucc = atLaunch m c := by
  rw [fin_N0 t]; rfl

/-- What it leaves after the point. -/
theorem after_point (c : Dev nD) (t : Fin cfg0.N) : arraysAt m c t.succ = atEnd m c := by
  rw [fin_N0 t]; rfl

set_option backward.isDefEq.respectTransparency.types false in
/-- The body at the one point, as the pipeline asks for it. -/
theorem body_obligation (c : Dev nD) : BodyObligation (dats (F := F) m 0 c) (defs₀ (F := F)) 𝒱₀ () Set.univ := fun t => by
  rw [bigSep_W0, bigSep_W0]
  dsimp only
  simp only [before_table, after_table]
  rw [show (dats m 0 c).Φ t.castSucc = Pipeline.Ends spec0 ownCells moved c (arraysAt m c t.castSucc) from rfl,
    show (dats m 0 c).Φ t.succ = Pipeline.Ends spec0 ownCells moved c (arraysAt m c t.succ) from rfl, before_point, after_point]
  unfold Dat.owesAt Pipeline.owesWithin
  rw [show (dats m 0 c).owed t.castSucc = 0 from rfl, show (dats m 0 c).owed t.succ = 0 from rfl]
  unfold owns Pipeline.Ends
  rw [moved_eq, moved_eq, ownCells_eq, scopedRest0_eq, atEnd_result, atEnd_x]
  iintro ⟨⟨⟨Hx, Ho⟩, Hc, ⟨⟨%f3, Hb⟩, ⟨%f4, Hp⟩⟩, Hr⟩, ⟨%W, -, HW⟩, ⟨%d0, %g0, %hg0, Ht⟩⟩
  ihave Ht' := (pointsTo_rep_entails (c : Thread nD τ) (st0_0 t) g0 fullShare) $$ Ht
  rw [hg0]
  sl_rw [body_at t]
  iapply (bodyRun c (st0_0 t) (hstage0_0 0) _ _ _ f3 f4 W)
  isplitl [Hx]; · iexact Hx
  isplitl [Ho]; · iexact Ho
  isplitl [Ht']; · iexact Ht'
  isplitl [Hb]; · iexact Hb
  isplitl [Hp]; · iexact Hp
  isplitl [Hc]; · iexact Hc
  isplitl [HW]; · iexact HW
  irw [View.read_rep]
  irw [staged_eq]
  iintro ⟨Hx, Ho, Ht, Hb, Hp, Hc, ⟨%W', HW⟩⟩
  isplitl [Hx Ho Hc Hb Hp Hr]
  · isplitl [Hx Ho]
    · isplitl [Hx]; · iexact Hx
      iexact Ho
    isplitl [Hc]; · iexact Hc
    isplitl [Hb Hp]
    · isplitl [Hb]; · iexact Hb
      iexact Hp
    iexact Hr
  isplitl [HW]
  · iexists W'; isplitr; · ipureintro; exact fun _ _ => Or.inl trivial
    iexact HW
  iexists _; isplitr; · ipureintro; exact View.read_rep _ _
  iexact Ht

/-- The whole program, from any memory with every counter at zero: every fair execution ends, with `result` in the
    result array, both arguments as they were and every counter back at zero. -/
theorem run : θ_run defs (onTc (τ := τ) (main (F := F))) ⟨m, fun _ => 0, g⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_routed cfgs (dats m) 0 launch0 ownCells_facts defs₀ 𝒱₀ m g main
    (fun c => (body_obligation m c).loose) (fun c => (dats m 0 c).share_full fun _ => rfl) (fun _ _ => rfl)
    (atLaunch m) (Pipeline.hmain_region cfgs 0 defs₀ 𝒱₀ m main fun c => (main_chain c).trans rfl)
    (fun _ _ => rfl) moved (by decide) (atEnd m)
    (fun c => by rw [show (dats m 0 c).Φ 0 = Pipeline.Ends spec0 ownCells moved c (atLaunch m c) from rfl])
    (fun c => by rw [show (dats m 0 c).Φ (Fin.last cfg0.N) = Pipeline.Ends spec0 ownCells moved c (atEnd m c) from rfl])
    (Q' := fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0)
    (hQ' := fun r h => ⟨fun c =>
      ⟨((h.1 c).2.1 main_v0 (by decide)).trans (atEnd_result m c), ((h.1 c).2.1 main_arg0 (by decide)).trans (atEnd_x m c),
        ((h.1 c).1 0).trans ((dats m 0 c).arrAt_in 0 rfl _)⟩, h.2⟩)

end Cert.KernelIdeal.Run

end
-- ==== Proof.SameProgram.lean ====
module

public import proofs.«01_k».proof.Defs
public import proofs.«01_k».proof.Proof.KernelLaunch
public import proofs.«01_k».proof.Proof.Gen.Kernel

@[expose] public section

set_option maxRecDepth 100000
set_option backward.isDefEq.respectTransparency false
set_option backward.isDefEq.respectTransparency.types false

noncomputable section

namespace Cert.SameProgram

open Idealize.ShloMosaic Idealize.ShloMosaic.TcCoe Idealize.SL.Sem

variable {F : FTy → Type} [FloatOps F]

/-- No operation was replaced, so the kernel and the kernel printed for the reals have one body. -/
theorem body : @Cert.Kernel.cc0_body F _ _ = @Cert.KernelIdeal.cc0_body F _ _ := by
  unfold Cert.Kernel.cc0_body Cert.KernelIdeal.cc0_body
  rfl

/-- and one table of bodies, -/
theorem bodies : @Cert.Kernel.defs₀ F _ _ = @Cert.KernelIdeal.defs₀ F _ _ := by
  unfold Cert.Kernel.defs₀ Cert.KernelIdeal.defs₀
  rw [body]
  refine congrArg Defs.onTc (funext fun l => funext fun a => ?_)
  match l, a with
  | ⟨0, _⟩, (t, s) => rfl

/-- one table of everything the program calls, -/
theorem calls : @Cert.Kernel.defs F _ _ = @Cert.KernelIdeal.defs F _ _ := by
  unfold Cert.Kernel.defs Cert.KernelIdeal.defs
  rw [bodies]
  rfl

/-- and one main program. -/
theorem mains : Cert.Kernel.main (F := F) = Cert.KernelIdeal.main (F := F) := rfl

/-- What a run of the one establishes, a run of the other establishes: here, at the machine's own floats, that the
    kernel runs to its end with both arguments as they were and every counter at zero. -/
theorem quiescent : Cert.quiescent_Kernel := by
  intro m g _
  rw [calls, mains]
  exact (θ_run (Cert.KernelIdeal.defs (F := Bits)) _ _).mono (fun r h => ⟨fun c => (h.1 c).2, h.2⟩)
    (Cert.KernelIdeal.Run.run (F := Bits) m g)

end Cert.SameProgram

end
-- ==== Proof.RefRows.lean ====
module

public import proofs.«01_k».proof.Proof.Gen.ReferenceIdeal.Run
public import Idealize.ShloMosaic.Lib.StableHlo.ReadAt
public import Idealize.ShloMosaic.Lib.Tactic.WordOmega
public import Idealize.ShloMosaic.Lib.Pointwise
public import Idealize.ShloMosaic.Lib.WordCmp
public import Idealize.ShloMosaic.Lib.Routing.Ops
public import Idealize.ShloMosaic.Lib.SortNet.Extract
public import Idealize.ShloMosaic.Lib.Pointwise.IndexBridge

@[expose] public section

set_option maxRecDepth 100000

noncomputable section

namespace Cert.ReferenceIdeal.Rows

open Cert.ReferenceIdeal Cert.ReferenceIdeal.Gen Cert.ReferenceIdeal.Value
open Idealize.ShloMosaic Idealize.ShloMosaic.TcCoe Idealize.SL.Sem Idealize.ShloMosaic.StableHlo

/-- The row of the table that position `j` takes when the mean for position `i` is formed: the distance `j − i` held
    between `−128` and `128`, moved up by `128`. -/
def slot (i j : Fin 2048) : Fin 257 := ⟨min (j.val + 128 - i.val) 256, by omega⟩

/-- The word the program computes for a pair of positions is the number of that row. -/
theorem word_slot (i j : Fin 2048) :
    IntOp.addi (IntOp.minsi 128#32 (IntOp.maxsi 4294967168#32
      (IntOp.subi (BitVec.ofNat 32 j.val) (BitVec.ofNat 32 i.val)))) 128#32 = BitVec.ofNat 32 (slot i j).val := by
  have hi := i.isLt
  have hj := j.isLt
  have hu : (IntOp.subi (BitVec.ofNat 32 j.val) (BitVec.ofNat 32 i.val)).toInt = (j.val : Int) - i.val := by
    unfold IntOp.subi
    word_omega
  have hm : (IntOp.minsi 128#32 (IntOp.maxsi 4294967168#32
      (IntOp.subi (BitVec.ofNat 32 j.val) (BitVec.ofNat 32 i.val)))).toInt
        = min 128 (max (-128) ((j.val : Int) - i.val)) := by
    rw [SortNet.toInt_minsi, SortNet.toInt_maxsi, hu]; rfl
  revert hm
  generalize IntOp.minsi 128#32 (IntOp.maxsi 4294967168#32
      (IntOp.subi (BitVec.ofNat 32 j.val) (BitVec.ofNat 32 i.val))) = m
  intro hm
  unfold slot
  word_omega

variable (X : Valuation τ sig (Elt Ideal))

/-- What is computed before the loop: the table of row numbers. -/
theorem entry_words (i j : Fin 2048) :
    (afterL preI X (Proc.devRef .tc main_v10_0) : IVec S2048x2048 32) (ix2 i j) = BitVec.ofNat 32 (slot i j).val := by
  simp only [afterL_cons, afterL_nil]
  after_reads_at
  simp only [id_eq]
  pointwise
  exact word_slot i j

/-- The loop works on the table it is given. -/
theorem entry_table : afterL preI X (Proc.devRef .tc main_v10_1) = X (Proc.devRef .tc main_arg1) := by
  simp only [afterL_cons, afterL_nil]
  after_reads_simp
  rfl

/-- The first stretch of a trip takes row `k` of the table of row numbers, `k` being the loop's counter. -/
theorem trip_words (k : Fin 2048) (hk : (X (Proc.devRef .tc main_v10_2) : IVec S_ 32) = fun _ => BitVec.ofNat 32 k.val)
    (j : Fin 2048) :
    (after while0Ops0 X (Proc.devRef .tc main_while0b_v14) : IVec S2048 32) (ix1 j)
      = (X (Proc.devRef .tc main_v10_0) : IVec S2048x2048 32) (ix2 k j) := by
  after_reads_simp
  simp -implicitDefEqProofs only [StableHlo.TRef.toBuf, StableHlo.TRef.ofBuf, cast_cast, cast_eq]
  rw [WordCmp.dynamicSlice_eq_extract (s := S2048x2048) S1x2048 _ _ _ ![k.val, 0] (by
      refine ⟨rfl, fun a => ?_⟩
      match a with
      | ⟨0, _⟩ => exact k.isLt
      | ⟨1, _⟩ => exact Nat.le_refl _) (by
    intro a
    match a with
    | ⟨0, _⟩ =>
      show (BitVec.toInt ((upto while0Ops0 X 1 (Proc.devRef .tc main_v10_2) : IVec S_ 32) (Shape.Idx.first h_S_))) = (k.val : Int)
      rw [show (upto while0Ops0 X 1 (Proc.devRef .tc main_v10_2) : IVec S_ 32) = _ from hk]
      have := k.isLt
      word_omega
    | ⟨1, _⟩ => rfl)]
  clean_types
  pointwise

/-- The last result is the input plus the mean rows. -/
theorem exit_sum (b : Fin 4) (i : Fin 2048) (d : Fin 768) :
    (after hostOps0_3 X (Proc.devRef .tc main_v13) : FVec Ideal S4x2048x768 .f32) (ix3 b i d)
      = FloatOps.addf (F := Ideal) (φ := .f32) (X (Proc.devRef .tc main_arg0) (ix3 b i d))
        (X (Proc.devRef .tc main_v10_3) (ix2 i d)) := by
  after_reads_at

/-- The third stretch forms the mean over the positions. -/
theorem trip_mean (d : Fin 768) :
    (after while0Ops0_2 X (Proc.devRef .tc main_while0b_v18) : FVec Ideal S768 .f32) (ix1 d)
      = Ideal.div (∑ j, (X (Proc.devRef .tc main_while0b_v15) : FVec Ideal S2048x768 .f32) (ix2 j d))
          (Ideal.ofBits FTy.f32 1157627904#32) := by
  after_reads_at

/-- The row gather read at an index: where the index word of a position is the number of a row, that row's entry. -/
theorem take_row {α : Type} (x : S257x768.Idx → α) (idx : IVec S2048x1 32) (j : Fin 2048) (d : Fin 768) (s : Fin 257)
    (hs : idx (ix2 j 0) = BitVec.ofNat 32 s.val) :
    Host.gather gather_S257x768_S2048x1_S2048x768_1_0_n_n_0_1_1768 x idx (ix2 j d) = x (ix2 s d) := by
  rw [ix2_eq_valueIdx, ix2_eq_valueIdx]
  exact Routing.gather_row (nb := 257) (B := 768) (n := 2048) gather_S257x768_S2048x1_S2048x768_1_0_n_n_0_1_1768
    rfl rfl rfl rfl rfl x idx j d s (by rw [← ix2_eq_valueIdx]; exact hs) (by norm_num)

/-- The second stretch takes a row of the table for each position: where the row number is in range no entry is replaced
    by the filling value. -/
theorem trip_take (s : Fin 2048 → Fin 257)
    (hs : ∀ j, (X (Proc.devRef .tc main_while0b_v14) : IVec S2048 32) (ix1 j) = BitVec.ofNat 32 (s j).val)
    (j : Fin 2048) (d : Fin 768) :
    (after while0Ops0_1 X (Proc.devRef .tc main_while0b_v15) : FVec Ideal S2048x768 .f32) (ix2 j d)
      = (X (Proc.devRef .tc main_v10_1) : FVec Ideal S257x768 .f32) (ix2 (s j) d) := by
  have hj := (s j).isLt
  have hneg : IntOp.cmpi CmpIPredicate.slt (BitVec.ofNat 32 (s j).val) 0#32 = 0#1 := by word_omega
  have hlo : IntOp.cmpi CmpIPredicate.sge (BitVec.ofNat 32 (s j).val) 0#32 = 1#1 := by word_omega
  have hhi : IntOp.cmpi CmpIPredicate.sle (BitVec.ofNat 32 (s j).val) 256#32 = 1#1 := by word_omega
  after_reads_at
  rw [take_row _ _ j d (s j) (by pointwise; rw [hs j, hneg]; rfl), hs j, hneg]
  have hsel : Scalar.select (0#1) (IntOp.addi (BitVec.ofNat 32 (s j).val) 257#32) (BitVec.ofNat 32 (s j).val)
      = BitVec.ofNat 32 (s j).val := rfl
  rw [hsel, hlo, hhi]
  rfl

/-- The fourth stretch writes the mean into row `k` of the result and leaves its other rows. -/
theorem trip_store (k : Fin 2048) (hk : (X (Proc.devRef .tc main_v10_2) : IVec S_ 32) = fun _ => BitVec.ofNat 32 k.val)
    (i : Fin 2048) (d : Fin 768) :
    (after while0Ops0_3 X (Proc.devRef .tc main_while0b_v19) : FVec Ideal S2048x768 .f32) (ix2 i d)
      = if i = k then (X (Proc.devRef .tc main_while0b_v18) : FVec Ideal S768 .f32) (ix1 d)
        else (X (Proc.devRef .tc main_v10_3) : FVec Ideal S2048x768 .f32) (ix2 i d) := by
  after_reads_simp
  simp -implicitDefEqProofs only [StableHlo.TRef.toBuf, StableHlo.TRef.ofBuf, cast_cast, cast_eq]
  rw [WordCmp.dynamicUpdateSlice_eq_update (s := S2048x768) (u := S1x768) _ _ _ _ ![k.val, 0] (by
      refine ⟨rfl, fun a => ?_⟩
      match a with
      | ⟨0, _⟩ => exact k.isLt
      | ⟨1, _⟩ => exact Nat.le_refl _) (by
    intro a
    match a with
    | ⟨0, _⟩ =>
      show (BitVec.toInt ((upto while0Ops0_3 X 2 (Proc.devRef .tc main_v10_2) : IVec S_ 32) (Shape.Idx.first h_S_))) = (k.val : Int)
      rw [show (upto while0Ops0_3 X 2 (Proc.devRef .tc main_v10_2) : IVec S_ 32) = _ from hk]
      have := k.isLt
      word_omega
    | ⟨1, _⟩ => rfl)]
  clean_types
  pointwise
  have hik : (k.val ≤ i.val ∧ i.val < k.val + 1) ↔ i = k := ⟨fun h => Fin.ext (by omega), fun h => by subst h; omega⟩
  by_cases h : i = k
  · rw [dif_pos (hik.2 h), if_pos h]
  · rw [dif_neg fun h' => h (hik.1 h'), if_neg h]

/-- The last stretch hands the result on to the next trip. -/
theorem trip_hand : after while0Ops0_4 X (Proc.devRef .tc main_v10_3) = X (Proc.devRef .tc main_while0b_v19) := by
  after_reads_simp
  rfl

/-- The buffers that no trip of the loop writes: the two arguments, the table of row numbers and the loop's table. -/
def Still (b : Ref sig .tc) : Prop := b = main_arg0 ∨ b = main_arg1 ∨ b = main_v10_0 ∨ b = main_v10_1

/-- One trip of the loop, its condition included. -/
abbrev trip : Valuation τ sig (Elt Ideal) := afterL bodyI (after condOps X)

/-- A trip leaves those buffers. -/
theorem trip_still (b : Ref sig .tc) (hb : Still b) : trip X (Proc.devRef .tc b) = X (Proc.devRef .tc b) := by
  simp only [trip, afterL_cons, afterL_nil]
  rcases hb with rfl | rfl | rfl | rfl <;>
  rw [after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel)]

/-- The mean, over all positions `j`, of the table rows that position `i` takes: its entry `d`. -/
def meanRow (t : S257x768.Idx → EReal) (i : Fin 2048) (d : Fin 768) : EReal :=
  Ideal.div (∑ j, t (ix2 (slot i j) d)) (Ideal.ofBits FTy.f32 1157627904#32)

/-- One trip writes row `k` of the result with its mean and leaves the other rows. -/
theorem trip_row (k : Fin 2048) (hk : (X (Proc.devRef .tc main_v10_2) : IVec S_ 32) = fun _ => BitVec.ofNat 32 k.val)
    (hw : ∀ i j, (X (Proc.devRef .tc main_v10_0) : IVec S2048x2048 32) (ix2 i j) = BitVec.ofNat 32 (slot i j).val)
    (i : Fin 2048) (d : Fin 768) :
    (trip X (Proc.devRef .tc main_v10_3) : FVec Ideal S2048x768 .f32) (ix2 i d)
      = if i = k then meanRow (X (Proc.devRef .tc main_v10_1)) k d
        else (X (Proc.devRef .tc main_v10_3) : FVec Ideal S2048x768 .f32) (ix2 i d) := by
  simp only [trip, afterL_cons, afterL_nil]
  have c0 : (after condOps X (Proc.devRef .tc main_v10_2) : IVec S_ 32) = fun _ => BitVec.ofNat 32 k.val :=
    (ctr_cond X).trans hk
  have c1 : (after while0Ops0_2 (after while0Ops0_1 (after while0Ops0 (after condOps X))) (Proc.devRef .tc main_v10_2) : IVec S_ 32)
      = fun _ => BitVec.ofNat 32 k.val := by
    rw [ctr_while0Ops0_2, ctr_while0Ops0_1, ctr_while0Ops0]; exact c0
  rw [trip_hand, trip_store _ k c1]
  by_cases h : i = k
  · rw [if_pos h, if_pos h, trip_mean]
    refine congrArg (fun s => Ideal.div s (Ideal.ofBits FTy.f32 1157627904#32)) (Finset.sum_congr rfl fun j _ => ?_)
    rw [trip_take _ (slot k) fun j => by
      rw [trip_words _ k c0, after_of_writes_sub condOps _ condOps_writes (by decide +kernel)]; exact hw k j]
    rw [after_of_writes_sub while0Ops0 _ while0Ops0_writes (by decide +kernel),
      after_of_writes_sub condOps _ condOps_writes (by decide +kernel)]
  · rw [if_neg h, if_neg h,
      after_of_writes_sub while0Ops0_2 _ while0Ops0_2_writes (by decide +kernel),
      after_of_writes_sub while0Ops0_1 _ while0Ops0_1_writes (by decide +kernel),
      after_of_writes_sub while0Ops0 _ while0Ops0_writes (by decide +kernel),
      after_of_writes_sub condOps _ condOps_writes (by decide +kernel)]

variable (m : (ℓ : Loc nD τ sig) → Buf (Elt Ideal) ℓ) (c : Dev nD)

/-- Before any trip, a buffer that no trip writes is as it was at the loop's entry. -/
theorem atK_still (b : Ref sig .tc) (hb : Still b) : ∀ k, atK m k c (Proc.devRef .tc b) = entryContents preI m c (Proc.devRef .tc b)
  | 0 => rfl
  | k + 1 => (trip_still (atK m k c) b hb).trans (atK_still b hb k)

/-- The stretches before the loop leave the two arguments. -/
theorem entry_args (b : Ref sig .tc) (hb : b = main_arg0 ∨ b = main_arg1) :
    entryContents preI m c (Proc.devRef .tc b) = m (c.tc.loc b) := by
  simp only [entryContents, afterL_cons, afterL_nil]
  rcases hb with rfl | rfl <;>
  rw [after_of_writes_sub hostOps0_2 _ hostOps0_2_writes (by decide +kernel),
    after_of_writes_sub hostOps0_1 _ hostOps0_1_writes (by decide +kernel),
    after_of_writes_sub hostOps0 _ hostOps0_writes (by decide +kernel)] <;> rfl

/-- Before the trip numbered `k` the result's rows below `k` are the means. -/
theorem atK_rows (d : Fin 768) : ∀ k, k ≤ 2048 → ∀ i : Fin 2048, i.val < k →
    (atK m k c (Proc.devRef .tc main_v10_3) : FVec Ideal S2048x768 .f32) (ix2 i d) = meanRow (m (c.tc.loc main_arg1)) i d
  | 0, _, i, hi => absurd hi (Nat.not_lt_zero _)
  | k + 1, hk, i, hi => by
    have hctr : (atK m k c (Proc.devRef .tc main_v10_2) : IVec S_ 32) = fun _ => BitVec.ofNat 32 (⟨k, hk⟩ : Fin 2048).val := by
      rw [atK_ctr]; funext _; simp [Scf.iv]
    have hw : ∀ i j, (atK m k c (Proc.devRef .tc main_v10_0) : IVec S2048x2048 32) (ix2 i j) = BitVec.ofNat 32 (slot i j).val :=
      fun i j => by rw [atK_still m c _ (Or.inr (Or.inr (Or.inl rfl)))]; exact entry_words _ i j
    have ht : atK m k c (Proc.devRef .tc main_v10_1) = m (c.tc.loc main_arg1) := by
      rw [atK_still m c _ (Or.inr (Or.inr (Or.inr rfl)))]; exact entry_table _
    refine (trip_row (atK m k c) ⟨k, hk⟩ hctr hw i d).trans ?_
    by_cases h : i = ⟨k, hk⟩
    · rw [if_pos h, ht, h]
    · rw [if_neg h]
      exact atK_rows d k (by omega) i (by have : i.val ≠ k := fun e => h (Fin.ext e); omega)

/-- What the whole program leaves in a buffer, from the contents before the condition that ends the loop. -/
theorem final_eq : finalContents condOps preI bodyI postI 2048 m c = after hostOps0_3 (after condOps (atK m 2048 c)) := by
  simp only [finalContents, afterL_cons, afterL_nil]

/-- The program leaves its arguments. -/
theorem final_args (b : Ref sig .tc) (hb : b = main_arg0 ∨ b = main_arg1) :
    finalContents condOps preI bodyI postI 2048 m c (Proc.devRef .tc b) = m (c.tc.loc b) := by
  rw [final_eq, ← entry_args m c b hb, ← atK_still m c b (hb.imp id Or.inl) 2048]
  rcases hb with rfl | rfl <;>
  rw [after_of_writes_sub hostOps0_3 _ hostOps0_3_writes (by decide +kernel),
    after_of_writes_sub condOps _ condOps_writes (by decide +kernel)]

/-- The result of the whole program: the input plus, at each position, the mean row of that position. -/
theorem final_result (b : Fin 4) (i : Fin 2048) (d : Fin 768) :
    (finalContents condOps preI bodyI postI 2048 m c (Proc.devRef .tc main_v13) : FVec Ideal S4x2048x768 .f32) (ix3 b i d)
      = FloatOps.addf (F := Ideal) (φ := .f32) (m (c.tc.loc main_arg0) (ix3 b i d)) (meanRow (m (c.tc.loc main_arg1)) i d) := by
  rw [final_eq, exit_sum, after_of_writes_sub condOps _ condOps_writes (by decide +kernel),
    after_of_writes_sub condOps _ condOps_writes (by decide +kernel),
    atK_still m c _ (Or.inl rfl), entry_args m c _ (Or.inl rfl), atK_rows m c d 2048 le_rfl i i.isLt]

end Cert.ReferenceIdeal.Rows
-- ==== Proof.KernelRows.lean ====
module

public import proofs.«01_k».proof.Proof.KernelRun
public import proofs.«01_k».proof.Proof.RefRows

@[expose] public section

set_option maxRecDepth 100000

noncomputable section

namespace Cert.Rows

open Cert.KernelIdeal Cert.KernelIdeal.Gen Cert.KernelIdeal.Run
open Cert.ReferenceIdeal.Rows (slot meanRow)
open Idealize.ShloMosaic Idealize.ShloMosaic.TcCoe Idealize.SL.Sem

/-- The reference's divisor is 2048. -/
theorem bits_2048 : Ideal.ofBits FTy.f32 1157627904#32 = ((2048 : ℝ) : EReal) := by
  simp [Ideal.ofBits, Ideal.ieee, -EReal.coe_mul]; norm_num

/-- The kernel's factor is 1/2048. -/
theorem bits_inv : Ideal.ofBits FTy.f32 973078528#32 = ((1 / 2048 : ℝ) : EReal) := by
  simp [Ideal.ofBits, Ideal.ieee, -EReal.coe_mul]; norm_num

/-- How many positions take row `k` of the table when the mean for position `i` is formed. -/
def count (i : Fin 2048) (k : Fin 257) : Nat := (Finset.univ.filter fun j => slot i j = k).card

/-- How many positions lie from `a` on and below `b`. -/
theorem card_between (n a b : Nat) : (Finset.univ.filter fun j : Fin n => a ≤ j.val ∧ j.val < b).card = min b n - a := by
  rw [← Nat.card_Ico, ← Finset.card_map Fin.valEmbedding]
  congr 1
  ext x
  simp only [Finset.mem_map, Finset.mem_filter, Finset.mem_univ, true_and, Fin.valEmbedding_apply, Finset.mem_Ico, lt_min_iff]
  exact ⟨fun ⟨j, h, e⟩ => by have := j.isLt; omega, fun h => ⟨⟨x, h.2.2⟩, ⟨h.1, h.2.1⟩, rfl⟩⟩

/-- If the positions that take row `k` are those from `a` on and below `b`, they are counted so. -/
theorem count_of (i : Fin 2048) (k : Fin 257) (a b : Nat) (h : ∀ j : Fin 2048, slot i j = k ↔ a ≤ j.val ∧ j.val < b) :
    count i k = min b 2048 - a := by
  rw [count, ← card_between]
  exact congrArg Finset.card (Finset.filter_congr fun j _ => h j)

/-- The first row is taken by the positions at least 128 before `i`. -/
theorem count_first (i : Fin 2048) : count i 0 = i.val - 127 := by
  have hi := i.isLt
  rw [count_of i 0 0 (i.val - 127) fun j => ?_]
  · omega
  · rw [Fin.ext_iff]; show min (j.val + 128 - i.val) 256 = 0 ↔ _; omega

/-- The last row is taken by the positions at least 128 after `i`. -/
theorem count_last (i : Fin 2048) : count i 256 = 1920 - i.val := by
  have hi := i.isLt
  rw [count_of i 256 (i.val + 128) 2048 fun j => ?_]
  · omega
  · rw [Fin.ext_iff]; show min (j.val + 128 - i.val) 256 = 256 ↔ _; omega

/-- Any other row is taken by one position at most: the one at the row's distance from `i`, if there is one. -/
theorem count_inner (i : Fin 2048) (k : Fin 257) (h0 : k.val ≠ 0) (h1 : k.val ≠ 256) :
    count i k = if 128 ≤ i.val + k.val ∧ i.val + k.val < 2176 then 1 else 0 := by
  have hi := i.isLt
  have hk := k.isLt
  rw [count_of i k (i.val + k.val - 128) (i.val + k.val + 1 - 128) fun j => ?_]
  · split <;> omega
  · rw [Fin.ext_iff]; show min (j.val + 128 - i.val) 256 = k.val ↔ _; omega

/-- A sum over the positions of the rows they take is the sum over the rows, each as often as it is taken. -/
theorem sum_slots (i : Fin 2048) (f : Fin 257 → EReal) : ∑ j, f (slot i j) = ∑ k, (count i k : EReal) * f k := by
  rw [← Finset.sum_fiberwise (s := Finset.univ) (g := slot i)]
  refine Finset.sum_congr rfl fun k _ => ?_
  rw [Finset.sum_congr rfl (g := fun _ => f k) fun j hj => by rw [(Finset.mem_filter.1 hj).2],
    Finset.sum_const, EReal.nsmul_eq_mul]
  rfl

/-- The number the kernel writes for position `i` and row `k`, as a word. -/
def weight (i : Fin 2048) (k : Fin 257) : BitVec 32 :=
  Scalar.select (IntOp.cmpi CmpIPredicate.eq (BitVec.ofNat 32 k.val) 256#32)
    (IntOp.maxsi (IntOp.subi (IntOp.subi 2048#32 (BitVec.ofNat 32 i.val)) 128#32) 0#32)
    (Scalar.select (IntOp.cmpi CmpIPredicate.eq (BitVec.ofNat 32 k.val) 0#32)
      (IntOp.maxsi (IntOp.subi (BitVec.ofNat 32 i.val) 127#32) 0#32)
      (BitVec.setWidth 32
        (IntOp.andi
          (IntOp.cmpi CmpIPredicate.sge (IntOp.subi (BitVec.ofNat 32 k.val) 128#32) (IntOp.subi 0#32 (BitVec.ofNat 32 i.val)))
          (IntOp.cmpi CmpIPredicate.sle (IntOp.subi (BitVec.ofNat 32 k.val) 128#32) (IntOp.subi 2047#32 (BitVec.ofNat 32 i.val))))))

/-- A choice between two words, made a float, is the choice between the two floats. -/
theorem sitofp_select (b : BitVec 1) (x y : BitVec 32) :
    Scalar.select b (FloatOps.sitofp (F := Ideal) FTy.f32 x) (FloatOps.sitofp FTy.f32 y) = FloatOps.sitofp FTy.f32 (Scalar.select b x y) := by
  unfold Scalar.select
  split <;> rfl

/-- That number is how many positions take the row. -/
theorem weight_eq (i : Fin 2048) (k : Fin 257) : (weight i k).toInt = (count i k : Int) := by
  have hi := i.isLt
  have hk := k.isLt
  unfold weight
  by_cases h1 : k.val = 256
  · have e : k = 256 := Fin.ext h1
    have b1 : IntOp.cmpi CmpIPredicate.eq (BitVec.ofNat 32 k.val) 256#32 = 1#1 := by word_omega
    have u : (IntOp.subi (IntOp.subi 2048#32 (BitVec.ofNat 32 i.val)) 128#32).toInt = 1920 - (i.val : Int) := by
      unfold IntOp.subi; word_omega
    rw [b1, show ∀ x y : BitVec 32, Scalar.select 1#1 x y = x from fun _ _ => rfl, SortNet.toInt_maxsi, u, e, count_last]
    show max _ (0 : Int) = _
    omega
  have b1 : IntOp.cmpi CmpIPredicate.eq (BitVec.ofNat 32 k.val) 256#32 = 0#1 := by word_omega
  rw [b1, show ∀ x y : BitVec 32, Scalar.select 0#1 x y = y from fun _ _ => rfl]
  by_cases h0 : k.val = 0
  · have e : k = 0 := Fin.ext h0
    have b0 : IntOp.cmpi CmpIPredicate.eq (BitVec.ofNat 32 k.val) 0#32 = 1#1 := by word_omega
    have u : (IntOp.subi (BitVec.ofNat 32 i.val) 127#32).toInt = (i.val : Int) - 127 := by
      unfold IntOp.subi; word_omega
    rw [b0, show ∀ x y : BitVec 32, Scalar.select 1#1 x y = x from fun _ _ => rfl, SortNet.toInt_maxsi, u, e, count_first]
    show max _ (0 : Int) = _
    omega
  have b0 : IntOp.cmpi CmpIPredicate.eq (BitVec.ofNat 32 k.val) 0#32 = 0#1 := by word_omega
  have uk : (IntOp.subi (BitVec.ofNat 32 k.val) 128#32).toInt = (k.val : Int) - 128 := by unfold IntOp.subi; word_omega
  have ul : (IntOp.subi 0#32 (BitVec.ofNat 32 i.val)).toInt = -(i.val : Int) := by unfold IntOp.subi; word_omega
  have uh : (IntOp.subi 2047#32 (BitVec.ofNat 32 i.val)).toInt = 2047 - (i.val : Int) := by unfold IntOp.subi; word_omega
  rw [b0, show ∀ x y : BitVec 32, Scalar.select 0#1 x y = y from fun _ _ => rfl, count_inner i k h0 h1]
  by_cases hl : 128 ≤ i.val + k.val
  · have c1 := IntOp.cmpi_sge.2 (show (IntOp.subi 0#32 (BitVec.ofNat 32 i.val)).toInt ≤ (IntOp.subi (BitVec.ofNat 32 k.val) 128#32).toInt by omega)
    by_cases hh : i.val + k.val < 2176
    · have c2 := IntOp.cmpi_sle.2 (show (IntOp.subi (BitVec.ofNat 32 k.val) 128#32).toInt ≤ (IntOp.subi 2047#32 (BitVec.ofNat 32 i.val)).toInt by omega)
      rw [if_pos ⟨hl, hh⟩, c1, c2]; rfl
    · have c2 : IntOp.cmpi CmpIPredicate.sle (IntOp.subi (BitVec.ofNat 32 k.val) 128#32) (IntOp.subi 2047#32 (BitVec.ofNat 32 i.val)) = 0#1 := by
        word_omega
      rw [if_neg (fun h => hh h.2), c1, c2]; rfl
  · have c1 : IntOp.cmpi CmpIPredicate.sge (IntOp.subi (BitVec.ofNat 32 k.val) 128#32) (IntOp.subi 0#32 (BitVec.ofNat 32 i.val)) = 0#1 := by
      word_omega
    have z : ∀ q : BitVec 1, IntOp.andi 0#1 q = 0#1 := by decide
    rw [if_neg (fun h => hl h.1), c1, z]; rfl

/-- The kernel's position row `i` is the reference's: the mean of the table rows the positions take. -/
theorem rows_at (t : S257x768.Idx → EReal) (i : Fin 2048) (d : Fin 768) : rowsOf (F := Ideal) t (ix2 i d) = meanRow t i d := by
  unfold rowsOf k0_pay2 k0_pay1
  pointwise
  simp only [sitofp_select]
  unfold meanRow
  rw [bits_2048, bits_inv, Ideal.div_coe (by norm_num), sum_slots i fun k => t (ix2 k d)]
  refine congrArg (· * ((1 / 2048 : ℝ) : EReal)) (Finset.sum_congr rfl fun k _ => ?_)
  refine congrArg (· * t (ix2 k d)) ?_
  show (((weight i k).toInt : ℝ) : EReal) = _
  rw [weight_eq]
  simp

end Cert.Rows
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.SameProgram
public import proofs.«01_k».proof.Proof.RefRows
public import proofs.«01_k».proof.Proof.KernelRows
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The reference, at the reals, from any memory: every run ends with its result at what its operations leave there in
    order, its arguments as they were, and every counter at zero. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem (c.tc.loc Cert.ReferenceIdeal.main_v13)
          = finalContents Cert.ReferenceIdeal.Value.condOps Cert.ReferenceIdeal.Value.preI Cert.ReferenceIdeal.Value.bodyI
              Cert.ReferenceIdeal.Value.postI 2048 m c (Proc.devRef .tc Cert.ReferenceIdeal.main_v13)
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1))
        ∧ r.2.sem = fun _ => 0) :=
  (θ_run (Cert.ReferenceIdeal.defs (F := Ideal)) _ _).mono
    (fun r h => ⟨fun c => ⟨h c Cert.ReferenceIdeal.main_v13 rfl,
        (h c Cert.ReferenceIdeal.main_arg0 rfl).trans (Cert.ReferenceIdeal.Rows.final_args m c _ (Or.inl rfl)),
        (h c Cert.ReferenceIdeal.main_arg1 rfl).trans (Cert.ReferenceIdeal.Rows.final_args m c _ (Or.inr rfl))⟩,
      sem_eq_zero_of_no_sems (by decide) r.2⟩)
    (Cert.ReferenceIdeal.Value.run_fold m g)

/-- From memories that agree on the arguments, the reference's result is the kernel's, element by element. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1)) :
    finalContents Cert.ReferenceIdeal.Value.condOps Cert.ReferenceIdeal.Value.preI Cert.ReferenceIdeal.Value.bodyI
        Cert.ReferenceIdeal.Value.postI 2048 m' c (Proc.devRef .tc Cert.ReferenceIdeal.main_v13)
      = Cert.KernelIdeal.Run.result m c := by
  funext y
  obtain ⟨b, i, d, rfl⟩ : ∃ (b : Fin 4) (i : Fin 2048) (d : Fin 768), y = ix3 b i d := ⟨_, _, _, eq_ix3 y⟩
  refine (Cert.ReferenceIdeal.Rows.final_result m' c b i d).trans ?_
  rw [h0, h1]
  exact congrArg (FloatOps.addf (F := Ideal) (φ := .f32) (m (c.tc.loc Cert.KernelIdeal.main_arg0) (ix3 b i d)))
    (Cert.Rows.rows_at (m (c.tc.loc Cert.KernelIdeal.main_arg1)) i d).symm

/-- All five claims: the three programs run to their ends with their arguments as they were and every counter at zero,
    no operation was replaced, and at the reals the kernel's result is the reference's. -/
theorem claim : Cert.Claim := ⟨Cert.Kernel.Gen.facts, Cert.KernelIdeal.Gen.facts, Cert.ReferenceIdeal.Gen.facts,
  Cert.SameProgram.quiescent,
  fun m g _ => (θ_run (Cert.KernelIdeal.defs (F := Ideal)) _ _).mono (fun _ h => ⟨fun c => (h.1 c).2, h.2⟩)
    (Cert.KernelIdeal.Run.run (F := Ideal) m g),
  fun m g _ => (θ_run (Cert.ReferenceIdeal.defs (F := Ideal)) _ _).mono (fun _ h => ⟨fun c => (h.1 c).2, h.2⟩)
    (reference_run m g),
  trivial,
  fun m g m' g' _ hm => ⟨fun c => Cert.KernelIdeal.Run.result m c,
    (θ_run (Cert.KernelIdeal.defs (F := Ideal)) _ _).mono (fun _ h => h.1) (Cert.KernelIdeal.Run.run (F := Ideal) m g),
    (θ_run (Cert.ReferenceIdeal.defs (F := Ideal)) _ _).mono
      (fun _ h c => ⟨(h.1 c).1.trans (results_agree m m' c (hm c).1 (hm c).2), (h.1 c).2⟩) (reference_run m' g')⟩⟩

end Cert.Proof

end
